-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1280000 : Shape := ⟨2, ![16, 1280000]⟩
abbrev S16x640000 : Shape := ⟨2, ![16, 640000]⟩
abbrev S128x64 : Shape := ⟨2, ![128, 64]⟩
abbrev S64 : Shape := ⟨1, ![64]⟩
abbrev S_ : Shape := ⟨0, ![]⟩
abbrev S128x128 : Shape := ⟨2, ![128, 128]⟩
abbrev S256x128 : Shape := ⟨2, ![256, 128]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S16x32000 : Shape := ⟨2, ![16, 32000]⟩
abbrev S16x16000 : Shape := ⟨2, ![16, 16000]⟩
abbrev S16x256 : Shape := ⟨2, ![16, 256]⟩
abbrev S16x128 : Shape := ⟨2, ![16, 128]⟩

abbrev nBuf : Space → Nat
  | .hbm => 14
  | .vmem => 6
  | .smem => 0
  | _ => 0

abbrev bufTy : (tb : Table) → Fin (tcTables nBuf tb) → BufTy
  | .hbm, ⟨0, _⟩ => ⟨S16x1280000, .f32⟩
  | .hbm, ⟨1, _⟩ => ⟨S16x640000, .f32⟩
  | .hbm, ⟨2, _⟩ => ⟨S128x64, .f32⟩
  | .hbm, ⟨3, _⟩ => ⟨S64, .f32⟩
  | .hbm, ⟨4, _⟩ => ⟨S_, .f32⟩
  | .hbm, ⟨5, _⟩ => ⟨S128x64, .f32⟩
  | .hbm, ⟨6, _⟩ => ⟨S128x128, .f32⟩
  | .hbm, ⟨7, _⟩ => ⟨S128x128, .f32⟩
  | .hbm, ⟨8, _⟩ => ⟨S256x128, .f32⟩
  | .hbm, ⟨9, _⟩ => ⟨S1x64, .f32⟩
  | .hbm, ⟨10, _⟩ => ⟨S1x1x1x64, .f32⟩
  | .hbm, ⟨11, _⟩ => ⟨S1x1x2x64, .f32⟩
  | .hbm, ⟨12, _⟩ => ⟨S1x128, .f32⟩
  | .hbm, ⟨13, _⟩ => ⟨S16x640000, .f32⟩
  | .local _ .vmem, ⟨0, _⟩ => ⟨S16x32000, .f32⟩
  | .local _ .vmem, ⟨1, _⟩ => ⟨S16x32000, .f32⟩
  | .local _ .vmem, ⟨2, _⟩ => ⟨S256x128, .f32⟩
  | .local _ .vmem, ⟨3, _⟩ => ⟨S1x128, .f32⟩
  | .local _ .vmem, ⟨4, _⟩ => ⟨S16x16000, .f32⟩
  | .local _ .vmem, ⟨5, _⟩ => ⟨S16x16000, .f32⟩
  | _, _ => ⟨S16x1280000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32 : BitVec 32 := 0#32
  let c125_i32 : BitVec 32 := 125#32
  let v4 : BitVec 32 := Scalar.addi c0_i32 c125_i32
  let c1_i32 : BitVec 32 := 1#32
  ⟨c0_i32, v4, c1_i32⟩
def k0_off1 (k0_t1 : Fin k0_t1_loop.trips) : Fin 2 → Nat :=
  let c0_4 : Index := 0#32
  let c0_i32 : BitVec 32 := 0#32
  let c1_i32 : BitVec 32 := 1#32
  let arg5 : BitVec 32 := Scf.iv c0_i32 c1_i32 k0_t1
  let c256_i32 : BitVec 32 := 256#32
  let v5 : BitVec 32 := Scalar.muli arg5 c256_i32
  let v6 : Index := Scalar.indexCast v5
  ![0, v6.toNat]
def k0_off2 (k0_t1 : Fin k0_t1_loop.trips) : Fin 2 → Nat :=
  let c0_5 : Index := 0#32
  let c0_i32 : BitVec 32 := 0#32
  let c1_i32 : BitVec 32 := 1#32
  let arg5 : BitVec 32 := Scf.iv c0_i32 c1_i32 k0_t1
  let c128_i32 : BitVec 32 := 128#32
  let v11 : BitVec 32 := Scalar.muli arg5 c128_i32
  let v12 : Index := Scalar.indexCast v11
  ![0, v12.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x16000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x1280000 : Shape := ⟨2, ![16, 1280000]⟩
abbrev S16x640000 : Shape := ⟨2, ![16, 640000]⟩
abbrev S128x64 : Shape := ⟨2, ![128, 64]⟩
abbrev S64 : Shape := ⟨1, ![64]⟩
abbrev S16x10000x128 : Shape := ⟨3, ![16, 10000, 128]⟩
abbrev S10000x128x16 : Shape := ⟨3, ![10000, 128, 16]⟩
abbrev S10000x2048 : Shape := ⟨2, ![10000, 2048]⟩
abbrev S1x10000x2048 : Shape := ⟨3, ![1, 10000, 2048]⟩
abbrev S1x10000x128x16 : Shape := ⟨4, ![1, 10000, 128, 16]⟩
abbrev S16x10000x128x1 : Shape := ⟨4, ![16, 10000, 128, 1]⟩
abbrev S160000x128 : Shape := ⟨2, ![160000, 128]⟩
abbrev S160000x64 : Shape := ⟨2, ![160000, 64]⟩
abbrev S1x64 : Shape := ⟨2, ![1, 64]⟩

abbrev nBuf : Space → Nat
  | .hbm => 16
  | .vmem => 0
  | .smem => 0
  | _ => 0

abbrev bufTy : (tb : Table) → Fin (tcTables nBuf tb) → BufTy
  | .hbm, ⟨0, _⟩ => ⟨S16x1280000, .f32⟩
  | .hbm, ⟨1, _⟩ => ⟨S16x640000, .f32⟩
  | .hbm, ⟨2, _⟩ => ⟨S128x64, .f32⟩
  | .hbm, ⟨3, _⟩ => ⟨S64, .f32⟩
  | .hbm, ⟨4, _⟩ => ⟨S16x10000x128, .f32⟩
  | .hbm, ⟨5, _⟩ => ⟨S10000x128x16, .f32⟩
  | .hbm, ⟨6, _⟩ => ⟨S10000x2048, .f32⟩
  | .hbm, ⟨7, _⟩ => ⟨S1x10000x2048, .f32⟩
  | .hbm, ⟨8, _⟩ => ⟨S1x10000x128x16, .f32⟩
  | .hbm, ⟨9, _⟩ => ⟨S16x10000x128x1, .f32⟩
  | .hbm, ⟨10, _⟩ => ⟨S160000x128, .f32⟩
  | .hbm, ⟨11, _⟩ => ⟨S160000x64, .f32⟩
  | .hbm, ⟨12, _⟩ => ⟨S1x64, .f32⟩
  | .hbm, ⟨13, _⟩ => ⟨S160000x64, .f32⟩
  | .hbm, ⟨14, _⟩ => ⟨S160000x64, .f32⟩
  | .hbm, ⟨15, _⟩ => ⟨S16x640000, .f32⟩
  | _, _ => ⟨S16x1280000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Spec.lean ====
/- The graph-convolution value as one function of the inputs, naming no program, and the sums it rests on:
   a sum over 256 positions split into two halves, and such a sum against a block-diagonal column. -/
module

public import Idealize.ShloMosaic.PureOps.Ideal.Laws
public import Idealize.ShloMosaic.Lib.ValueIdxCore

@[expose] public section

noncomputable section

namespace Cert.Gconv

open Idealize.ShloMosaic Idealize.ShloMosaic.ValueIdx
open scoped BigOperators

/-- Where feature `k` of the node that output column `j` belongs to sits in a row of the input: node `j / 64`
    owns the 128 consecutive input columns from `j / 64 * 128`. -/
abbrev inCol (j : Fin 640000) (k : Fin 128) : Fin 1280000 := ⟨j.val / 64 * 128 + k.val, by omega⟩

/-- The output feature of output column `j`. -/
abbrev feat (j : Fin 640000) : Fin 64 := ⟨j.val % 64, by omega⟩

/-- The result at batch row `i 0` and column `i 1 = node * 64 + o`: the sum over the 128 features `k` of that node
    of `x[b, node * 128 + k] * w[k, o]`, plus `bias[o]`. -/
def gconv (x : (⟨2, ![16, 1280000]⟩ : Shape).Idx → EReal) (w : (⟨2, ![128, 64]⟩ : Shape).Idx → EReal)
    (b : (⟨1, ![64]⟩ : Shape).Idx → EReal) : (⟨2, ![16, 640000]⟩ : Shape).Idx → EReal :=
  fun i => (∑ k : Fin 128, x (ix2 (i 0) (inCol (i 1) k)) * w (ix2 k (feat (i 1)))) + b (ix1 (feat (i 1)))

/-- A sum over 256 positions is the sum over the first 128 plus the sum over the last 128. -/
theorem sum_halves (f : Fin 256 → EReal) :
    ∑ k, f k = (∑ k : Fin 128, f ⟨k.val, by omega⟩) + ∑ k : Fin 128, f ⟨128 + k.val, by omega⟩ :=
  Fin.sum_univ_add (a := 128) (b := 128) f

/-- A product with a column that is `u` on half `p` of the 256 positions and zero on the other half keeps only half
    `p`: the other half contributes `a * 0 = 0` at every position, infinite or not. -/
theorem sum_blockDiag (p : ℕ) (hp : p < 2) (a v : Fin 256 → EReal) (u : Fin 128 → EReal)
    (hv : ∀ k : Fin 256, v k = if k.val / 128 = p then u ⟨k.val % 128, by omega⟩ else 0) :
    ∑ k, a k * v k = ∑ k : Fin 128, a ⟨p * 128 + k.val, by omega⟩ * u k := by
  rw [sum_halves]
  obtain rfl | rfl : p = 0 ∨ p = 1 := by omega
  · have h1 : (∑ k : Fin 128, a ⟨128 + k.val, by omega⟩ * v ⟨128 + k.val, by omega⟩) = 0 :=
      Finset.sum_eq_zero fun k _ => by
        rw [hv, if_neg (by show ¬(128 + k.val) / 128 = 0; omega), mul_zero]
    rw [h1, add_zero]
    refine Finset.sum_congr rfl fun k _ => ?_
    rw [hv, if_pos (by show k.val / 128 = 0; omega)]
    exact congrArg₂ (fun s t => a s * u t) (Fin.ext (by show k.val = 0 * 128 + k.val; omega))
      (Fin.ext (by show k.val % 128 = k.val; omega))
  · have h0 : (∑ k : Fin 128, a ⟨k.val, by omega⟩ * v ⟨k.val, by omega⟩) = 0 :=
      Finset.sum_eq_zero fun k _ => by
        rw [hv, if_neg (by show ¬k.val / 128 = 1; omega), mul_zero]
    rw [h0, zero_add]
    refine Finset.sum_congr rfl fun k _ => ?_
    rw [hv, if_pos (by show (128 + k.val) / 128 = 1; omega)]
    exact congrArg₂ (fun s t => a s * u t) (Fin.ext (by show 128 + k.val = 1 * 128 + k.val; omega))
      (Fin.ext (by show (128 + k.val) % 128 = k.val; omega))

end Cert.Gconv

end
-- ==== Proof.Block.lean ====
/- What one grid point of the kernel computes: the 16 x 16000 block its loop of 125 trips leaves, as one function of
   the three input blocks, and each trip's stored tile as a piece of that function. -/
module

public import proofs.«01_k».proof.Proof.Spec
public import proofs.«01_k».proof.Proof.Gen.KernelIdeal.Frame
public import Idealize.ShloMosaic.Lib.Pipeline.Value
public import Idealize.ShloMosaic.Lib.MatmulPlain

@[expose] public section

set_option maxRecDepth 16384

noncomputable section

namespace Cert.KernelIdeal.Gconv

open Cert.KernelIdeal Cert.KernelIdeal.Gen
open Idealize.ShloMosaic Idealize.ShloMosaic.TcCoe Idealize.ShloMosaic.ValueIdx Idealize.ShloMosaic.Tactic
open Idealize.SL.Sem
open scoped BigOperators

/-- The block one grid point leaves: at row `r`, column `j`, the product of the 256 input columns from
    `j / 128 * 256` with column `j % 128` of the weight block, plus entry `j % 128` of the bias row. -/
def block (x : Vec Ideal S16x32000 .f32) (w : Vec Ideal S256x128 .f32) (b : Vec Ideal S1x128 .f32) :
    Vec Ideal S16x16000 .f32 := fun y =>
  ((∑ k : Fin 256, (x (ix2 (y 0) (⟨(y 1).val / 128 * 256 + k.val, by
      have : (y 1).val < 16000 := (y 1).isLt
      omega⟩ : Fin 32000)) : EReal) * w (ix2 k (⟨(y 1).val % 128, by omega⟩ : Fin 128)))
    + b (ix2 (0 : Fin 1) (⟨(y 1).val % 128, by omega⟩ : Fin 128)) : EReal)

/-- One trip's tile at row `r`, column `q`: the product of the trip's 256 input columns with the weight block,
    plus the bias row. -/
theorem tile_apply (w : Vec Ideal S256x128 .f32) (b : Vec Ideal S1x128 .f32) (v : Vec Ideal S16x256 .f32)
    (r : Fin 16) (q : Fin 128) :
    k0_pay1 w b v (ix2 r q)
      = ((∑ k : Fin 256, (v (ix2 r k) : EReal) * w (ix2 k q)) + b (ix2 (0 : Fin 1) q) : EReal) := by
  unfold k0_pay1
  rw [shapeCast_self, shapeCast_self]
  refine congrArg₂ (fun s t : EReal => s + t)
    ((Ideal.matmul_plain_apply (φ₁ := .f32) (φ₂ := .f32) none v w (constant (F := Ideal) S16x128 .f32 0x00000000#32) r q).trans
      ?_) ?_
  · rw [show (constant (F := Ideal) S16x128 .f32 0x00000000#32 (ix2 r q) : EReal) = 0 from Ideal.ofBits_zero_f32]
    exact zero_add _
  · exact broadcastTo_apply b _ _ _ (fun a => match a with
      | ⟨0, _⟩ => rfl
      | ⟨1, _⟩ => rfl)

variable (𝒱 : Variants) (c : Dev nD) (bd : Option 𝒱.V) (i : grid0.Coords)
  (a1 : Memref sig .tc .vmem S16x32000 .f32) (h1 : a1.IsWhole) (a2 : Memref sig .tc .vmem S256x128 .f32) (h2 : a2.IsWhole)
  (a3 : Memref sig .tc .vmem S1x128 .f32) (h3 : a3.IsWhole) (a4 : Memref sig .tc .vmem S16x16000 .f32) (h4 : a4.IsWhole)
  (w : Vec Ideal S256x128 .f32) (b : Vec Ideal S1x128 .f32)

/-- Trip `k` stores one tile, at the columns from `128 * k`, computed from the input columns from `256 * k`. -/
theorem trip_pieces (X : BufTy.Contents (Elt Ideal) a1.view.ty) (k : Fin k0_t1_loop.trips) :
    tripL_k0_t1 (F := Ideal) 𝒱 c bd i a1 h1 a2 h2 a3 h3 a4 h4 w b X k
      = [⟨Rect.unit (s := S16x16000) (k0_off2 k) S16x128.size (k0_off2_inb k),
          k0_pay1 w b (View.ld (a1.view.read (Elt Ideal) X)
            (Rect.unit (s := S16x32000) (k0_off1 k) S16x256.size (k0_off1_inb k)))⟩] := by
  unfold tripL_k0_t1 trip_k0_t1
  rfl

/-- A trip's tile is the part of `block` its columns name. -/
theorem tile_eq_block (x : Vec Ideal S16x32000 .f32) (k : Fin k0_t1_loop.trips)
    (z : (Rect.unit (s := S16x16000) (k0_off2 k) S16x128.size (k0_off2_inb k)).shape.Idx) :
    k0_pay1 w b (View.ld x (Rect.unit (s := S16x32000) (k0_off1 k) S16x256.size (k0_off1_inb k))) z
      = block x w b ((Rect.unit (s := S16x16000) (k0_off2 k) S16x128.size (k0_off2_inb k)).emb z) := by
  have hz0 : (z 0).val < 16 := (z 0).isLt
  have hz1 : (z 1).val < 128 := (z 1).isLt
  have e : z = ix2 (⟨(z 0).val, hz0⟩ : Fin 16) (⟨(z 1).val, hz1⟩ : Fin 128) := eq_ix2 _
  have o20 : k0_off2 k 0 = 0 := by rw [k0_off2_eq]; rfl
  have o21 : k0_off2 k 1 = 128 * k.val := by rw [k0_off2_eq]; rfl
  have o10 : k0_off1 k 0 = 0 := by rw [k0_off1_eq]; rfl
  have o11 : k0_off1 k 1 = 256 * k.val := by rw [k0_off1_eq]; rfl
  have y0 : ((Rect.unit (s := S16x16000) (k0_off2 k) S16x128.size (k0_off2_inb k)).emb z 0).val = (z 0).val := by
    show k0_off2 k 0 + 1 * (z 0).val = _; omega
  have y1 : ((Rect.unit (s := S16x16000) (k0_off2 k) S16x128.size (k0_off2_inb k)).emb z 1).val = 128 * k.val + (z 1).val := by
    show k0_off2 k 1 + 1 * (z 1).val = _; omega
  generalize (Rect.unit (s := S16x16000) (k0_off2 k) S16x128.size (k0_off2_inb k)).emb z = y at y0 y1
  unfold block
  refine (congrArg (k0_pay1 w b _) e).trans ((tile_apply w b _ _ _).trans ?_)
  have hq : (⟨(y 1).val % 128, by omega⟩ : Fin 128) = ⟨(z 1).val, hz1⟩ := Fin.ext (by
    show (y 1).val % 128 = (z 1).val; omega)
  rw [hq]
  refine congrArg₂ (· + ·) (Finset.sum_congr rfl fun q _ => congrArg₂ (· * ·) ?_ rfl) rfl
  refine congrArg x (funext fun a => Fin.ext ?_)
  match a with
  | ⟨0, _⟩ => show k0_off1 k 0 + 1 * (z 0).val = (y 0).val; omega
  | ⟨1, _⟩ => show k0_off1 k 1 + 1 * q.val = (y 1).val / 128 * 256 + q.val; omega

/-- Every piece the loop has stored after `n` trips holds the part of `block` its rectangle names. -/
theorem loop_pieces (X : BufTy.Contents (Elt Ideal) a1.view.ty) : ∀ (n : ℕ) (_ : n ≤ k0_t1_loop.trips),
    ∀ p ∈ pb_k0_t1 (F := Ideal) 𝒱 c bd i a1 h1 a2 h2 a3 h3 a4 h4 w b X n,
      ∀ z : p.1.shape.Idx, p.2 z = block (a1.view.read (Elt Ideal) X) w b (p.1.emb z)
  | 0, _ => fun p hp => absurd hp List.not_mem_nil
  | n + 1, hn => fun p hp => by
    rw [pb_k0_t1_succ (F := Ideal) 𝒱 c bd i a1 h1 a2 h2 a3 h3 a4 h4 w b X ⟨n, hn⟩, trip_pieces] at hp
    rcases List.mem_append.mp hp with hp | hp
    · obtain rfl := List.mem_singleton.mp hp
      exact tile_eq_block w b (a1.view.read (Elt Ideal) X) ⟨n, hn⟩
    · exact loop_pieces X n (Nat.le_of_succ_le hn) p hp

/-- The offsets `(0, 0)` are zero. -/
theorem off_zero : (![0, 0] : Fin 2 → Nat) = fun _ => 0 := funext fun a => by
  match a with
  | ⟨0, _⟩ => rfl
  | ⟨1, _⟩ => rfl

/-- What the body leaves in the output's staging buffer is `block` of its three input blocks. -/
theorem out_eq (x0 : Vec Ideal S16x32000 .f32) :
    out0_A_3 (F := Ideal) c i a1 h1 a2 h2 a3 h3 a4 h4 x0 w b = block x0 w b := by
  unfold out0_A_3
  rw [View.read_writes_eq_canon _ _ _ (cover0_A_3 c i a1 h1 a2 h2 a3 h3 a4 h4 x0 w b)]
  funext y
  refine View.canon_apply_of_pieces (block x0 w b) _ ?_ y (cover0_A_3 c i a1 h1 a2 h2 a3 h3 a4 h4 x0 w b y)
  unfold kernelRun0_A
  dsimp only
  sl_unfold_words
  simp only [View.readAt_eq_ld, h2.read_unread, h3.read_unread, View.ld_unit_zero (S := S256x128) off_zero,
    View.ld_unit_zero (S := S1x128) off_zero]
  have H := loop_pieces Variants.none c none i a1 h1 a2 h2 a3 h3 a4 h4 w b (h1.unread x0) _ le_rfl
  rw [h1.read_unread] at H
  exact H

end Cert.KernelIdeal.Gconv

end
-- ==== Proof.Weights.lean ====
/- What the host operations before the launch leave in the two small arrays the kernel reads: the block-diagonal
   256 x 128 weight and the bias repeated twice, each read at an index. -/
module

public import proofs.«01_k».proof.Proof.Spec
public import proofs.«01_k».proof.Proof.Gen.KernelIdeal.Frame
public import Idealize.ShloMosaic.Lib.Pipeline.Value

@[expose] public section

set_option maxRecDepth 16384

noncomputable section

namespace Cert.KernelIdeal.Gconv

open Cert.KernelIdeal Cert.KernelIdeal.Gen
open Idealize.ShloMosaic Idealize.ShloMosaic.TcCoe Idealize.ShloMosaic.ValueIdx Idealize.SL.Sem

/-- The 128 x 64 array of zeros the host builds. -/
def zeros : Vec Ideal S128x64 .f32 :=
  broadcastInDim (s := S_) S128x64 ![] bcast_S_S128x64 (constant (F := Ideal) S_ .f32 0x00000000#32)

/-- The block-diagonal weight of `w`: `[w 0; 0 w]`. -/
def weight2 (w : Vec Ideal S128x64 .f32) : Vec Ideal S256x128 .f32 :=
  concatenate S256x128 0
    [⟨S128x128, concatenate S128x128 1 [⟨S128x64, w⟩, ⟨S128x64, zeros⟩] concatenates_S128x64_S128x64_S128x128_d1⟩,
     ⟨S128x128, concatenate S128x128 1 [⟨S128x64, zeros⟩, ⟨S128x64, w⟩] concatenates_S128x64_S128x64_S128x128_d1⟩]
    concatenates_S128x128_S128x128_S256x128_d0

/-- The bias `b` repeated twice along one row. -/
def bias2 (b : Vec Ideal S64 .f32) : Vec Ideal S1x128 .f32 :=
  shapeCast S1x128 (broadcastInDim S1x1x2x64 ![0, 1, 2, 3] bcast_S1x1x1x64_S1x1x2x64_0_1_2_3
    (shapeCast S1x1x1x64 (shapeCast S1x64 b shapeCasts_S64_S1x64) shapeCasts_S1x64_S1x1x1x64 : Vec Ideal S1x1x1x64 .f32))
    shapeCasts_S1x1x2x64_S1x128

variable (m : (ℓ : Loc nD τ sig) → Buf (Elt Ideal) ℓ)

/-- At launch the weight array holds the block-diagonal weight of the third argument. -/
theorem V_weight (c : Dev nD) : V m c main_v1 = weight2 (m ((c : Thread nD τ).loc main_arg2)) := by
  dsimp only [V, hostOps0, hostOps0_1, hostOps0_2, List.flatten, List.append_eq, List.nil_append, List.cons_append]
  after_results <;> rfl

/-- At launch the bias row holds the fourth argument repeated twice. -/
theorem V_bias (c : Dev nD) : V m c main_v5 = bias2 (m ((c : Thread nD τ).loc main_arg3)) := by
  dsimp only [V, hostOps0, hostOps0_1, hostOps0_2, List.flatten, List.append_eq, List.nil_append, List.cons_append]
  after_results <;> rfl

/-- The zeros are zero. -/
theorem zeros_apply (i : S128x64.Idx) : zeros i = (0 : EReal) := by
  unfold zeros
  rw [broadcastInDim_apply ![] bcast_S_S128x64 _ i ix0 (fun a => a.elim0)]
  exact Ideal.ofBits_zero_f32

/-- Two 128 x 64 arrays side by side, read in column `q`: the left one for `q < 64`, the right one at `q - 64` after. -/
theorem beside_apply (l r : Vec Ideal S128x64 .f32) (k q : Fin 128) :
    concatenate S128x128 1 [⟨S128x64, l⟩, ⟨S128x64, r⟩] concatenates_S128x64_S128x64_S128x128_d1 (ix2 k q)
      = if q.val / 64 = 0 then l (ix2 k ⟨q.val % 64, by omega⟩) else r (ix2 k ⟨q.val % 64, by omega⟩) := by
  by_cases h : q.val / 64 = 0
  · rw [if_pos h]
    exact concatenate_pair_apply_left (t := S128x128) (s₁ := S128x64) (s₂ := S128x64) (1 : Fin 2) l r _ _ rfl _
      (fun a => match a with
        | ⟨0, _⟩ => rfl
        | ⟨1, _⟩ => by show q.val % 64 = q.val; omega)
  · rw [if_neg h]
    exact concatenate_pair_apply_right (t := S128x128) (s₁ := S128x64) (s₂ := S128x64) (1 : Fin 2) l r _ _ rfl rfl _
      (fun a ha => match a with
        | ⟨0, _⟩ => rfl
        | ⟨1, _⟩ => absurd rfl ha)
      (by show q.val % 64 + 64 = q.val; omega)

/-- The block-diagonal weight at row `k`, column `q`: `w[k % 128, q % 64]` where row and column lie in the same
    block, zero elsewhere. -/
theorem weight2_apply (w : Vec Ideal S128x64 .f32) (k : Fin 256) (q : Fin 128) :
    weight2 w (ix2 k q)
      = if k.val / 128 = q.val / 64 then (w (ix2 ⟨k.val % 128, by omega⟩ ⟨q.val % 64, by omega⟩) : EReal) else 0 := by
  unfold weight2
  by_cases h : k.val / 128 = 0
  · rw [concatenate_pair_apply_left (t := S256x128) (s₁ := S128x128) (s₂ := S128x128) (0 : Fin 2) _ _ _ _ rfl
      (ix2 (⟨k.val % 128, by omega⟩ : Fin 128) q) (fun a => match a with
        | ⟨0, _⟩ => by show k.val % 128 = k.val; omega
        | ⟨1, _⟩ => rfl), beside_apply, h, zeros_apply]
    exact if_congr eq_comm rfl rfl
  · have h1 : k.val / 128 = 1 := by omega
    rw [concatenate_pair_apply_right (t := S256x128) (s₁ := S128x128) (s₂ := S128x128) (0 : Fin 2) _ _ _ _ rfl rfl
      (ix2 (⟨k.val % 128, by omega⟩ : Fin 128) q) (fun a ha => match a with
        | ⟨0, _⟩ => absurd rfl ha
        | ⟨1, _⟩ => rfl) (by show k.val % 128 + 128 = k.val; omega), beside_apply, h1, zeros_apply]
    by_cases hq : q.val / 64 = 0
    · rw [if_pos hq, if_neg (by omega)]
    · rw [if_neg hq, if_pos (by omega)]

/-- The repeated bias at column `q` is `b[q % 64]`. -/
theorem bias2_apply (b : Vec Ideal S64 .f32) (q : Fin 128) :
    bias2 b (ix2 (0 : Fin 1) q) = b (ix1 ⟨q.val % 64, by omega⟩) := by
  unfold bias2
  rw [shapeCast_apply _ _ _ (ix4 (0 : Fin 1) (0 : Fin 1) (⟨q.val / 64, by omega⟩ : Fin 2) (⟨q.val % 64, by omega⟩ : Fin 64))
      (by rw [Shape.rowMajor_val_four, Shape.rowMajor_val_two]
          show ((0 * 1 + 0) * 2 + q.val / 64) * 64 + q.val % 64 = 0 * 128 + q.val; omega),
    broadcastInDim_apply _ _ _ _ (ix4 (0 : Fin 1) (0 : Fin 1) (0 : Fin 1) (⟨q.val % 64, by omega⟩ : Fin 64))
      (fun a => match a with
        | ⟨0, _⟩ => rfl
        | ⟨1, _⟩ => rfl
        | ⟨2, _⟩ => rfl
        | ⟨3, _⟩ => rfl),
    shapeCast_apply _ _ _ (ix2 (0 : Fin 1) (⟨q.val % 64, by omega⟩ : Fin 64))
      (by rw [Shape.rowMajor_val_four, Shape.rowMajor_val_two]
          show 0 * 64 + q.val % 64 = ((0 * 1 + 0) * 1 + 0) * 64 + q.val % 64; omega),
    shapeCast_apply _ _ _ (ix1 (⟨q.val % 64, by omega⟩ : Fin 64))
      (by rw [Shape.rowMajor_val_one, Shape.rowMajor_val_two]
          show q.val % 64 = 0 * 64 + q.val % 64; omega)]

end Cert.KernelIdeal.Gconv

end
-- ==== Proof.Array.lean ====
/- What the kernel's result array holds after the run: each grid point writes back its own block of columns of the
   graph-convolution value, and the forty blocks cover the array. -/
module

public import proofs.«01_k».proof.Proof.Block
public import proofs.«01_k».proof.Proof.Weights
public import proofs.«01_k».proof.Proof.Gen.KernelIdeal.Value

@[expose] public section

set_option maxRecDepth 16384

noncomputable section

namespace Cert.KernelIdeal.Gconv

open Cert.KernelIdeal Cert.KernelIdeal.Gen Cert.Gconv
open Idealize.ShloMosaic Idealize.ShloMosaic.TcCoe Idealize.ShloMosaic.ValueIdx Idealize.SL.Sem
open Idealize.ShloMosaic.Pipeline (Dat)
open scoped BigOperators

/-- THE EQUATION on one block: with the block-diagonal weight and the repeated bias, the block at grid point `t` is
    the graph-convolution value at the columns from `16000 * t`. -/
theorem block_eq_gconv (X : Vec Ideal S16x1280000 .f32) (w : Vec Ideal S128x64 .f32) (b : Vec Ideal S64 .f32)
    (x0 : Vec Ideal S16x32000 .f32) (t : ℕ) (ht : t < 40)
    (hx : ∀ (r : Fin 16) (j : Fin 32000), x0 (ix2 r j) = X (ix2 r (⟨t * 32000 + j.val, by omega⟩ : Fin 1280000)))
    (y : S16x16000.Idx) (i : S16x640000.Idx) (h0 : (i 0).val = (y 0).val) (h1 : (i 1).val = t * 16000 + (y 1).val) :
    block x0 (weight2 w) (bias2 b) y = gconv X w b i := by
  have hy0 : (y 0).val < 16 := (y 0).isLt
  have hy1 : (y 1).val < 16000 := (y 1).isLt
  unfold block gconv
  refine congrArg₂ (fun s t : EReal => s + t) ?_ ?_
  · refine (sum_blockDiag ((y 1).val % 128 / 64) (by omega)
      (fun k => x0 (ix2 (y 0) (⟨(y 1).val / 128 * 256 + k.val, by omega⟩ : Fin 32000)))
      (fun k => weight2 w (ix2 k (⟨(y 1).val % 128, by omega⟩ : Fin 128)))
      (fun k => w (ix2 k (⟨(y 1).val % 128 % 64, by omega⟩ : Fin 64)))
      (fun k => weight2_apply w k _)).trans ?_
    refine Finset.sum_congr rfl fun k _ => ?_
    have hk := k.isLt
    refine congrArg₂ (fun s t : EReal => s * t) ((hx _ _).trans (congrArg X (funext fun a => Fin.ext ?_)))
      (congrArg w (funext fun a => Fin.ext ?_))
    · match a with
      | ⟨0, _⟩ => exact h0.symm
      | ⟨1, _⟩ =>
        show t * 32000 + ((y 1).val / 128 * 256 + ((y 1).val % 128 / 64 * 128 + k.val)) = (i 1).val / 64 * 128 + k.val
        omega
    · match a with
      | ⟨0, _⟩ => rfl
      | ⟨1, _⟩ => show (y 1).val % 128 % 64 = (i 1).val % 64; omega
  · refine (bias2_apply b _).trans (congrArg b (funext fun a => Fin.ext ?_))
    match a with
    | ⟨0, _⟩ => show (y 1).val % 128 % 64 = (i 1).val % 64; omega

/-- Which block each window takes at grid point `t`: the input and the output move along the columns with `t`, the
    weight and the bias stay at the one block they have. -/
theorem index_facts : ∀ t : Fin cfg0.N,
    win0_0.index t 0 = 0 ∧ win0_0.index t 1 = t.val ∧ win0_1.index t 0 = 0 ∧ win0_1.index t 1 = 0
      ∧ win0_2.index t 0 = 0 ∧ win0_2.index t 1 = 0 ∧ win0_3.index t 0 = 0 ∧ win0_3.index t 1 = t.val :=
  (by decide +kernel : ∀ t : Fin grid0.N,
    win0_0.index t 0 = 0 ∧ win0_0.index t 1 = t.val ∧ win0_1.index t 0 = 0 ∧ win0_1.index t 1 = 0
      ∧ win0_2.index t 0 = 0 ∧ win0_2.index t 1 = 0 ∧ win0_3.index t 0 = 0 ∧ win0_3.index t 1 = t.val)

variable (m : (ℓ : Loc nD τ sig) → Buf (Elt Ideal) ℓ)

/-- There are forty grid points. -/
theorem point_lt (t : Fin cfg0.N) : t.val < 40 := by
  have := t.isLt; have : cfg0.N = 40 := N_0; omega

/-- The input block at point `t`, at row `r` and column `j`, is the input at column `t * 32000 + j`. -/
theorem input_apply (c : Dev nD) (t : Fin cfg0.N) (r : Fin 16) (j : Fin 32000) :
    (iblk m c 0 t : Vec Ideal S16x32000 .f32) (ix2 r j)
      = m ((c : Thread nD τ).loc main_arg0) (ix2 r (⟨t.val * 32000 + j.val, by have := point_lt t; omega⟩ : Fin 1280000)) := by
  unfold iblk
  rw [View.read_apply]
  show V m c main_arg0 _ = _
  rw [V_main_arg0]
  refine congrArg (m ((c : Thread nD τ).loc main_arg0)) (funext fun a => Fin.ext ?_)
  have hi := index_facts t
  match a with
  | ⟨0, _⟩ => show win0_0.index t 0 * 16 + 1 * r.val = r.val; rw [hi.1]; omega
  | ⟨1, _⟩ => show win0_0.index t 1 * 32000 + 1 * j.val = t.val * 32000 + j.val; rw [hi.2.1]; omega

/-- The weight block at every point is the block-diagonal weight. -/
theorem weight_block (c : Dev nD) (t : Fin cfg0.N) :
    (iblk m c 1 t : Vec Ideal S256x128 .f32) = weight2 (m ((c : Thread nD τ).loc main_arg2)) := by
  funext j
  unfold iblk
  rw [View.read_apply]
  show V m c main_v1 _ = _
  rw [V_weight]
  refine congrArg (weight2 (m ((c : Thread nD τ).loc main_arg2))) (funext fun a => Fin.ext ?_)
  have hi := index_facts t
  match a with
  | ⟨0, _⟩ => show win0_1.index t 0 * 256 + 1 * (j 0).val = (j 0).val; rw [hi.2.2.1]; omega
  | ⟨1, _⟩ => show win0_1.index t 1 * 128 + 1 * (j 1).val = (j 1).val; rw [hi.2.2.2.1]; omega

/-- The bias block at every point is the repeated bias. -/
theorem bias_block (c : Dev nD) (t : Fin cfg0.N) :
    (iblk m c 2 t : Vec Ideal S1x128 .f32) = bias2 (m ((c : Thread nD τ).loc main_arg3)) := by
  funext j
  unfold iblk
  rw [View.read_apply]
  show V m c main_v5 _ = _
  rw [V_bias]
  refine congrArg (bias2 (m ((c : Thread nD τ).loc main_arg3))) (funext fun a => Fin.ext ?_)
  have hi := index_facts t
  match a with
  | ⟨0, _⟩ => show win0_2.index t 0 * 1 + 1 * (j 0).val = (j 0).val; rw [hi.2.2.2.2.1]; omega
  | ⟨1, _⟩ => show win0_2.index t 1 * 128 + 1 * (j 1).val = (j 1).val; rw [hi.2.2.2.2.2.1]; omega

/-- The result: the graph-convolution value of the launch's input, weight and bias. -/
abbrev result (c : Dev nD) : Buf (Elt Ideal) ((c : Thread nD τ).loc main_v6) :=
  gconv (m ((c : Thread nD τ).loc main_arg0)) (m ((c : Thread nD τ).loc main_arg2)) (m ((c : Thread nD τ).loc main_arg3))

/-- What point `t` writes back is its block of the result. -/
theorem flushed_eq (c : Dev nD) (t : Fin cfg0.N) :
    (dats m 0 c).flushed 3 t = ((cfg0.win 3).blk t).view.read (Elt Ideal) (result m c) := by
  rw [Value.flushed3_A, out_eq, weight_block, bias_block]
  funext y
  rw [View.read_apply]
  have hi := index_facts t
  exact block_eq_gconv (m ((c : Thread nD τ).loc main_arg0)) (m ((c : Thread nD τ).loc main_arg2))
    (m ((c : Thread nD τ).loc main_arg3)) (iblk m c 0 t) t.val (point_lt t) (input_apply m c t) y _
    (by show win0_3.index t 0 * 16 + 1 * (y 0).val = (y 0).val; rw [hi.2.2.2.2.2.2.1]; omega)
    (by show win0_3.index t 1 * 16000 + 1 * (y 1).val = t.val * 16000 + (y 1).val; rw [hi.2.2.2.2.2.2.2]; omega)

/-- Column `j` of the result lies in the block of point `j / 16000`: the array ends holding the result. -/
theorem final (c : Dev nD) : (dats m 0 c).arrAt 3 cfg0.N = result m c :=
  (dats m 0 c).arrAt_eq_of_cover 3 (result m c) (fun t _ => flushed_eq m c t) fun i => by
    have h0 : (i 0 : Nat) < 16 := (i 0).isLt
    have h1 : (i 1 : Nat) < 640000 := (i 1).isLt
    have hN : cfg0.N = 40 := N_0
    obtain ⟨t, ht⟩ : ∃ t : Fin cfg0.N, t.val = (i 1 : Nat) / 16000 := ⟨⟨(i 1 : Nat) / 16000, by omega⟩, rfl⟩
    refine ⟨t, flush0_3 t, ?_⟩
    show i ∈ ((View.whole main_v6).slice (win0_3.rect t)).set
    rw [View.set_slice_whole, Rect.mem_set_unit]
    have hi := index_facts t
    intro a
    match a with
    | ⟨0, _⟩ =>
      show win0_3.index t 0 * 16 ≤ (i 0 : Nat) ∧ (i 0 : Nat) < win0_3.index t 0 * 16 + 16
      rw [hi.2.2.2.2.2.2.1]; omega
    | ⟨1, _⟩ =>
      show win0_3.index t 1 * 16000 ≤ (i 1 : Nat) ∧ (i 1 : Nat) < win0_3.index t 1 * 16000 + 16000
      rw [hi.2.2.2.2.2.2.2]; omega

end Cert.KernelIdeal.Gconv

end
-- ==== Proof.RefSide.lean ====
/- What the reference computes: read through its reshapes, transposes and broadcasts, its result array is
   `Cert.Gconv.gconv` of its three used arguments. -/
module

public import proofs.«01_k».proof.Proof.Spec
public import proofs.«01_k».proof.Proof.Gen.ReferenceIdeal.Read

@[expose] public section

set_option maxRecDepth 16384

noncomputable section

namespace Cert.ReferenceIdeal.Gconv

open Cert.ReferenceIdeal Cert.ReferenceIdeal.Gen Cert.ReferenceIdeal.Read
open Idealize.ShloMosaic Idealize.ShloMosaic.ValueIdx Cert.Gconv

/-- The features laid out as one row per node, batch innermost: row `n`, column `k * 16 + r` is `x[r, n * 128 + k]`. -/
theorem nodes_apply (x : (⟨S16x1280000, .f32⟩ : BufTy).Contents (Elt Ideal)) (n : Fin 10000) (p : Fin 2048) :
    val_main_v2 (F := Ideal) x (ix2 n p)
      = x (ix2 (⟨p.val % 16, by omega⟩ : Fin 16) (⟨n.val * 128 + p.val / 16, by omega⟩ : Fin 1280000)) := by
  rw [val_main_v2_apply, val_main_v1_apply]
  have hn := n.isLt
  have hp := p.isLt
  have e : idx_main_v1 (idx_main_v2 (ix2 n p))
      = ix3 (⟨p.val % 16, by omega⟩ : Fin 16) n (⟨p.val / 16, by omega⟩ : Fin 128) := funext fun a => Fin.ext (by
    match a with
    | ⟨0, _⟩ => show (n.val * 2048 + p.val) % 16 = p.val % 16; omega
    | ⟨1, _⟩ => show (n.val * 2048 + p.val) / 2048 = n.val; omega
    | ⟨2, _⟩ => show (n.val * 2048 + p.val) / 16 % 128 = p.val / 16; omega)
  rw [e, val_main_v0_apply]
  refine congrArg x (funext fun a => Fin.ext ?_)
  match a with
  | ⟨0, _⟩ => show ((p.val % 16 * 10000 + n.val) * 128 + p.val / 16) / 1280000 = p.val % 16; omega
  | ⟨1, _⟩ => show ((p.val % 16 * 10000 + n.val) * 128 + p.val / 16) % 1280000 = n.val * 128 + p.val / 16; omega

/-- The chain of reshapes and transposes before the product only renames positions: row `n` and column `k` of the
    matrix it multiplies is `x[n / 10000, n % 10000 * 128 + k]`. -/
theorem rows_apply (x : (⟨S16x1280000, .f32⟩ : BufTy).Contents (Elt Ideal)) (n : Fin 160000) (k : Fin 128)
    (r : Fin 16) (j : Fin 1280000) (hr : r.val = n.val / 10000) (hj : j.val = n.val % 10000 * 128 + k.val) :
    val_main_v6 (F := Ideal) x (ix2 n k) = x (ix2 r j) := by
  have hn := n.isLt
  have hk := k.isLt
  rw [val_main_v6_apply, val_main_v5_apply]
  have e : idx_main_v5 (idx_main_v6 (ix2 n k))
      = ix4 (0 : Fin 1) (⟨n.val % 10000, by omega⟩ : Fin 10000) k r := funext fun a => Fin.ext (by
    match a with
    | ⟨0, _⟩ => rfl
    | ⟨1, _⟩ => show (n.val * 128 + k.val) / 128 % 10000 = n.val % 10000; omega
    | ⟨2, _⟩ => show (n.val * 128 + k.val) / 1 % 128 = k.val; omega
    | ⟨3, _⟩ => show (n.val * 128 + k.val) / 1280000 = r.val; omega)
  rw [e, val_main_v4_apply, val_main_v3_apply]
  have hrl := r.isLt
  have e2 : idx_main_v3 (idx_main_v4 (ix4 (0 : Fin 1) (⟨n.val % 10000, by omega⟩ : Fin 10000) k r))
      = ix2 (⟨n.val % 10000, by omega⟩ : Fin 10000) (⟨k.val * 16 + r.val, by omega⟩ : Fin 2048) :=
    funext fun a => Fin.ext (by
      match a with
      | ⟨0, _⟩ =>
        show (((0 * 10000 + n.val % 10000) * 128 + k.val) * 16 + r.val) / 2048 % 10000 = n.val % 10000
        have hq : (((0 * 10000 + n.val % 10000) * 128 + k.val) * 16 + r.val) / 2048 = n.val % 10000 := by omega
        rw [hq, Nat.mod_mod]
      | ⟨1, _⟩ =>
        show (((0 * 10000 + n.val % 10000) * 128 + k.val) * 16 + r.val) % 2048 = k.val * 16 + r.val; omega)
  rw [e2, nodes_apply]
  refine congrArg x (funext fun a => Fin.ext ?_)
  match a with
  | ⟨0, _⟩ => show (k.val * 16 + r.val) % 16 = r.val; omega
  | ⟨1, _⟩ => show n.val % 10000 * 128 + (k.val * 16 + r.val) / 16 = j.val; omega

/-- The reference's result is the graph-convolution value. -/
theorem val_eq (x : (⟨S16x1280000, .f32⟩ : BufTy).Contents (Elt Ideal))
    (w : (⟨S128x64, .f32⟩ : BufTy).Contents (Elt Ideal)) (b : (⟨S64, .f32⟩ : BufTy).Contents (Elt Ideal)) :
    val_main_v11 (F := Ideal) x w b = gconv x w b := by
  funext i
  have h0 : (i 0).val < 16 := (i 0).isLt
  have h1 : (i 1).val < 640000 := (i 1).isLt
  rw [val_main_v11_apply, val_main_v10_apply, val_main_v7_apply, val_main_v9_apply, val_main_v8_apply]
  show (_ : EReal) + _ = _
  unfold gconv
  refine congrArg₂ (· + ·) (Finset.sum_congr rfl fun k _ => congrArg₂ (· * ·) ?_ ?_) ?_
  · have e : lidx_main_v7 (idx_main_v11 i) k
        = ix2 (⟨((i 0).val * 640000 + (i 1).val) / 64, by omega⟩ : Fin 160000) k := eq_ix2 _
    rw [e]
    exact rows_apply x _ k _ _ (by show (i 0).val = ((i 0).val * 640000 + (i 1).val) / 64 / 10000; omega)
      (by show (i 1).val / 64 * 128 + k.val = ((i 0).val * 640000 + (i 1).val) / 64 % 10000 * 128 + k.val; omega)
  · refine congrArg w (funext fun a => Fin.ext ?_)
    match a with
    | ⟨0, _⟩ => rfl
    | ⟨1, _⟩ => show ((i 0).val * 640000 + (i 1).val) % 64 = (i 1).val % 64; omega
  · refine congrArg b (funext fun a => Fin.ext ?_)
    match a with
    | ⟨0, _⟩ => show ((i 0).val * 640000 + (i 1).val) % 64 = (i 1).val % 64; omega

end Cert.ReferenceIdeal.Gconv

end
-- ==== Proof.lean ====
/- The proof of the five claims: the kernel, its ideal program and the ideal reference end without fault with their
   arguments and semaphores as required, the ideal program is the kernel, and the kernel's result is the reference's.
   The mathematics lies in `Proof.Spec` (the value), `Proof.RefSide` (the reference), `Proof.Weights` (the two arrays
   prepared on the host), `Proof.Block` (one grid point) and `Proof.Array` (the result array). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Array
public import proofs.«01_k».proof.Proof.RefSide
public import proofs.«01_k».proof.Proof.Gen.ReferenceIdeal.Run
public import proofs.«01_k».proof.Proof.Gen.ReferenceIdeal.Read
public import Idealize.ShloMosaic.Lib.Quiescent
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The value claim: from memories agreeing on the arguments, the kernel's result array and the reference's both end
    holding the graph-convolution value of the input, the weight and the bias. -/
theorem value : algebraic_KernelIdeal_ReferenceIdeal (hKernelIdeal := Cert.KernelIdeal.Gen.facts)
    (hReferenceIdeal := Cert.ReferenceIdeal.Gen.facts) := fun m g m' g' _ heq => by
  refine ⟨fun c => Cert.KernelIdeal.Gconv.result m c, ?_, ?_⟩
  · exact (θ_run Cert.KernelIdeal.defs _ _).mono
      (fun r h c => ⟨(h c).1.trans (Cert.KernelIdeal.Gconv.final m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨e0, _, e2, e3⟩ := heq c
    rw [e0, e2, e3]
    exact (Cert.ReferenceIdeal.Read.val_main_v11_eq _ _ _).trans (Cert.ReferenceIdeal.Gconv.val_eq _ _ _)

/-- The five claims. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono (fun r h => ⟨fun c => (h c).2,
    sem_eq_zero_of_no_sems (by decide) r.2⟩) (Cert.ReferenceIdeal.Value.run (F := Ideal) m ρ),
  trivial,
  value⟩

end Cert.Proof

end
